-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_types_finite_base [hPre_binary_types_finite_base : Cert.Pre_binary_types_finite_base.Facts] (m : (ℓ : Loc Cert.KernelIdeal.nD Cert.KernelIdeal.τ Cert.KernelIdeal.sig) → Buf (Elt Ideal) ℓ) : Prop :=
  ∀ c : Dev Cert.KernelIdeal.nD,
    (Cert.Pre_binary_types_finite_base.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_binary_types_finite_base.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_types_finite_base [hPre_binary_types_finite_base : Cert.Pre_binary_types_finite_base.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_types_finite_base.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_binary_types_finite_base.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_binary_types_finite_base [hKernelIdeal : Cert.KernelIdeal.Facts] [hPre_binary_types_finite_base : Cert.Pre_binary_types_finite_base.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_types_finite_base m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_binary_types_finite_base [hReferenceIdeal : Cert.ReferenceIdeal.Facts] [hPre_binary_types_finite_base : Cert.Pre_binary_types_finite_base.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_types_finite_base m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_binary_types_finite_base [hKernelIdeal : Cert.KernelIdeal.Facts] [hReferenceIdeal : Cert.ReferenceIdeal.Facts] [hPre_binary_types_finite_base : Cert.Pre_binary_types_finite_base.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_types_finite_base m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_binary_types_finite_base : Cert.Pre_binary_types_finite_base.Facts),
    quiescent_Kernel (hKernel := hKernel)
    ∧ quiescent_KernelIdeal (hKernelIdeal := hKernelIdeal)
    ∧ quiescent_KernelIdeal_pre_binary_types_finite_base (hKernelIdeal := hKernelIdeal) (hPre_binary_types_finite_base := hPre_binary_types_finite_base)
    ∧ quiescent_ReferenceIdeal (hReferenceIdeal := hReferenceIdeal)
    ∧ quiescent_ReferenceIdeal_pre_binary_types_finite_base (hReferenceIdeal := hReferenceIdeal) (hPre_binary_types_finite_base := hPre_binary_types_finite_base)
    ∧ preserves_Kernel_KernelIdeal
    ∧ algebraic_KernelIdeal_ReferenceIdeal_pre_binary_types_finite_base (hKernelIdeal := hKernelIdeal) (hReferenceIdeal := hReferenceIdeal) (hPre_binary_types_finite_base := hPre_binary_types_finite_base)
-- ==== Pre_binary_types_finite_base.lean ====
abbrev S64x512x69 : Shape := ⟨3, ![64, 512, 69]⟩
abbrev S64x512 : Shape := ⟨2, ![64, 512]⟩
abbrev S69x768 : Shape := ⟨2, ![69, 768]⟩
abbrev S512x768 : Shape := ⟨2, ![512, 768]⟩
abbrev S2x768 : Shape := ⟨2, ![2, 768]⟩
abbrev S768 : Shape := ⟨1, ![768]⟩
abbrev S_ : Shape := ⟨0, ![]⟩
abbrev S1x768 : Shape := ⟨2, ![1, 768]⟩

class Facts : Prop where
  bcast_S_S64x512 : S_.BroadcastsInDim S64x512 (![] : Fin 0 → Fin S64x512.rank)
  slices_S2x768_S1x768_0_0 : S2x768.Slices ![0, 0] S1x768
  shapeCasts_S1x768_S768 : S1x768.ShapeCasts S768
  bcast_S_S768 : S_.BroadcastsInDim S768 (![] : Fin 0 → Fin S768.rank)

variable [Facts]

def fn {F : FTy → Type} [FloatOps F] (main_arg0 : FVec F S64x512x69 .f32) (main_arg1 : IVec S64x512 32) (main_arg2 : FVec F S69x768 .f32) (main_arg3 : FVec F S512x768 .f32) (main_arg4 : FVec F S2x768 .f32) (main_arg5 : FVec F S768 .f32) (main_arg6 : FVec F S768 .f32) : IVec S64x512 1 × IVec S768 1 :=
  let main_c : IVec S_ 32 := constantI S_ 32 0#32
  let main_v0 : IVec S64x512 32 := broadcastInDim S64x512 ![] bcast_S_S64x512 main_c
  let main_v1 : IVec S64x512 1 := cmpi .sge main_arg1 main_v0
  let main_c_0 : IVec S_ 32 := constantI S_ 32 2#32
  let main_v2 : IVec S64x512 32 := broadcastInDim S64x512 ![] bcast_S_S64x512 main_c_0
  let main_v3 : IVec S64x512 1 := cmpi .slt main_arg1 main_v2
  let main_v4 : IVec S64x512 1 := andi main_v1 main_v3
  let main_v5 : FVec F S1x768 .f32 := (extractStridedSlice S1x768 ![0, 0] · slices_S2x768_S1x768_0_0) main_arg4
  let main_v6 : FVec F S768 .f32 := shapeCast S768 main_v5 shapeCasts_S1x768_S768
  let main_v7 : FVec F S768 .f32 := Host.absf main_v6
  let main_cst : FVec F S_ .f32 := constant S_ .f32 0x7F800000#32
  let main_v8 : FVec F S768 .f32 := broadcastInDim S768 ![] bcast_S_S768 main_cst
  let main_v9 : IVec S768 1 := cmpf .olt main_v7 main_v8
  (main_v4, main_v9)
-- ==== Kernel.lean ====
abbrev S64x512x69 : Shape := ⟨3, ![64, 512, 69]⟩
abbrev S64x512 : Shape := ⟨2, ![64, 512]⟩
abbrev S69x768 : Shape := ⟨2, ![69, 768]⟩
abbrev S512x768 : Shape := ⟨2, ![512, 768]⟩
abbrev S2x768 : Shape := ⟨2, ![2, 768]⟩
abbrev S768 : Shape := ⟨1, ![768]⟩
abbrev S64x1x512 : Shape := ⟨3, ![64, 1, 512]⟩
abbrev S1x1x768 : Shape := ⟨3, ![1, 1, 768]⟩
abbrev S1x768 : Shape := ⟨2, ![1, 768]⟩
abbrev S71x768 : Shape := ⟨2, ![71, 768]⟩
abbrev S64x512x768 : Shape := ⟨3, ![64, 512, 768]⟩
abbrev S4x512x69 : Shape := ⟨3, ![4, 512, 69]⟩
abbrev S4x1x512 : Shape := ⟨3, ![4, 1, 512]⟩
abbrev S4x512x768 : Shape := ⟨3, ![4, 512, 768]⟩
abbrev S1x512x69 : Shape := ⟨3, ![1, 512, 69]⟩
abbrev S512x69 : Shape := ⟨2, ![512, 69]⟩
abbrev S2048x69 : Shape := ⟨2, ![2048, 69]⟩
abbrev S1x1x512 : Shape := ⟨3, ![1, 1, 512]⟩
abbrev S512 : Shape := ⟨1, ![512]⟩
abbrev S512x1 : Shape := ⟨2, ![512, 1]⟩
abbrev S2048x1 : Shape := ⟨2, ![2048, 1]⟩
abbrev S2048x71 : Shape := ⟨2, ![2048, 71]⟩
abbrev S2048x768 : Shape := ⟨2, ![2048, 768]⟩
abbrev S2048 : Shape := ⟨1, ![2048]⟩
abbrev S1x512x768 : Shape := ⟨3, ![1, 512, 768]⟩

abbrev nBuf : Space → Nat
  | .hbm => 21
  | .vmem => 10
  | .smem => 0
  | _ => 0

abbrev bufTy : (tb : Table) → Fin (tcTables nBuf tb) → BufTy
  | .hbm, ⟨0, _⟩ => ⟨S64x512x69, .f32⟩
  | .hbm, ⟨1, _⟩ => ⟨S64x512, .i32⟩
  | .hbm, ⟨2, _⟩ => ⟨S69x768, .f32⟩
  | .hbm, ⟨3, _⟩ => ⟨S512x768, .f32⟩
  | .hbm, ⟨4, _⟩ => ⟨S2x768, .f32⟩
  | .hbm, ⟨5, _⟩ => ⟨S768, .f32⟩
  | .hbm, ⟨6, _⟩ => ⟨S768, .f32⟩
  | .hbm, ⟨7, _⟩ => ⟨S64x1x512, .i32⟩
  | .hbm, ⟨8, _⟩ => ⟨S1x1x768, .f32⟩
  | .hbm, ⟨9, _⟩ => ⟨S1x1x768, .f32⟩
  | .hbm, ⟨10, _⟩ => ⟨S1x768, .f32⟩
  | .hbm, ⟨11, _⟩ => ⟨S768, .f32⟩
  | .hbm, ⟨12, _⟩ => ⟨S1x768, .f32⟩
  | .hbm, ⟨13, _⟩ => ⟨S768, .f32⟩
  | .hbm, ⟨14, _⟩ => ⟨S768, .f32⟩
  | .hbm, ⟨15, _⟩ => ⟨S1x768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S71x768, .f32⟩
  | .hbm, ⟨20, _⟩ => ⟨S64x512x768, .f32⟩
  | .local _ .vmem, ⟨0, _⟩ => ⟨S4x512x69, .f32⟩
  | .local _ .vmem, ⟨1, _⟩ => ⟨S4x512x69, .f32⟩
  | .local _ .vmem, ⟨2, _⟩ => ⟨S4x1x512, .i32⟩
  | .local _ .vmem, ⟨3, _⟩ => ⟨S4x1x512, .i32⟩
  | .local _ .vmem, ⟨4, _⟩ => ⟨S71x768, .f32⟩
  | .local _ .vmem, ⟨5, _⟩ => ⟨S512x768, .f32⟩
  | .local _ .vmem, ⟨6, _⟩ => ⟨S1x1x768, .f32⟩
  | .local _ .vmem, ⟨7, _⟩ => ⟨S1x1x768, .f32⟩
  | .local _ .vmem, ⟨8, _⟩ => ⟨S4x512x768, .f32⟩
  | .local _ .vmem, ⟨9, _⟩ => ⟨S4x512x768, .f32⟩
  | _, _ => ⟨S64x512x69, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x69 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S71x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x512x69 : Shape := ⟨3, ![64, 512, 69]⟩
abbrev S64x512 : Shape := ⟨2, ![64, 512]⟩
abbrev S69x768 : Shape := ⟨2, ![69, 768]⟩
abbrev S512x768 : Shape := ⟨2, ![512, 768]⟩
abbrev S2x768 : Shape := ⟨2, ![2, 768]⟩
abbrev S768 : Shape := ⟨1, ![768]⟩
abbrev S64x512x768 : Shape := ⟨3, ![64, 512, 768]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩
abbrev S1x512x768 : Shape := ⟨3, ![1, 512, 768]⟩
abbrev S64x512x1 : Shape := ⟨3, ![64, 512, 1]⟩
abbrev S1x1x1 : Shape := ⟨3, ![1, 1, 1]⟩
abbrev S1x1x768 : Shape := ⟨3, ![1, 1, 768]⟩

abbrev nBuf : Space → Nat
  | .hbm => 88
  | .vmem => 0
  | .smem => 0
  | _ => 0

abbrev bufTy : (tb : Table) → Fin (tcTables nBuf tb) → BufTy
  | .hbm, ⟨0, _⟩ => ⟨S64x512x69, .f32⟩
  | .hbm, ⟨1, _⟩ => ⟨S64x512, .i32⟩
  | .hbm, ⟨2, _⟩ => ⟨S69x768, .f32⟩
  | .hbm, ⟨3, _⟩ => ⟨S512x768, .f32⟩
  | .hbm, ⟨4, _⟩ => ⟨S2x768, .f32⟩
  | .hbm, ⟨5, _⟩ => ⟨S768, .f32⟩
  | .hbm, ⟨6, _⟩ => ⟨S768, .f32⟩
  | .hbm, ⟨7, _⟩ => ⟨S64x512x768, .f32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S1x1, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i1⟩
  | .hbm, ⟨26, _⟩ => ⟨S512, .i1⟩
  | .hbm, ⟨27, _⟩ => ⟨S512x768, .f32⟩
  | .hbm, ⟨28, _⟩ => ⟨S512x768, .i1⟩
  | .hbm, ⟨29, _⟩ => ⟨S_, .f32⟩
  | .hbm, ⟨30, _⟩ => ⟨S512x768, .f32⟩
  | .hbm, ⟨31, _⟩ => ⟨S512x768, .f32⟩
  | .hbm, ⟨32, _⟩ => ⟨S1x512x768, .f32⟩
  | .hbm, ⟨33, _⟩ => ⟨S_, .i32⟩
  | .hbm, ⟨34, _⟩ => ⟨S64x512, .i32⟩
  | .hbm, ⟨35, _⟩ => ⟨S64x512, .i1⟩
  | .hbm, ⟨36, _⟩ => ⟨S_, .i32⟩
  | .hbm, ⟨37, _⟩ => ⟨S64x512, .i32⟩
  | .hbm, ⟨38, _⟩ => ⟨S64x512, .i32⟩
  | .hbm, ⟨39, _⟩ => ⟨S64x512, .i32⟩
  | .hbm, ⟨40, _⟩ => ⟨S64x512x1, .i32⟩
  | .hbm, ⟨41, _⟩ => ⟨S1, .i32⟩
  | .hbm, ⟨42, _⟩ => ⟨S_, .i32⟩
  | .hbm, ⟨43, _⟩ => ⟨S64x512x1, .i32⟩
  | .hbm, ⟨44, _⟩ => ⟨S64x512x1, .i1⟩
  | .hbm, ⟨45, _⟩ => ⟨S1x1x1, .i32⟩
  | .hbm, ⟨46, _⟩ => ⟨S64x512x1, .i32⟩
  | .hbm, ⟨47, _⟩ => ⟨S64x512x1, .i1⟩
  | .hbm, ⟨48, _⟩ => ⟨S64x512x1, .i1⟩
  | .hbm, ⟨49, _⟩ => ⟨S_, .i1⟩
  | .hbm, ⟨50, _⟩ => ⟨S64x512, .i1⟩
  | .hbm, ⟨51, _⟩ => ⟨S64x512x768, .f32⟩
  | .hbm, ⟨52, _⟩ => ⟨S64x512x768, .i1⟩
  | .hbm, ⟨53, _⟩ => ⟨S_, .f32⟩
  | .hbm, ⟨54, _⟩ => ⟨S64x512x768, .f32⟩
  | .hbm, ⟨55, _⟩ => ⟨S64x512x768, .f32⟩
  | .hbm, ⟨56, _⟩ => ⟨S64x512x768, .f32⟩
  | .hbm, ⟨57, _⟩ => ⟨S64x512x768, .f32⟩
  | .hbm, ⟨58, _⟩ => ⟨S64x512x768, .f32⟩
  | .hbm, ⟨59, _⟩ => ⟨S_, .f32⟩
  | .hbm, ⟨60, _⟩ => ⟨S64x512, .f32⟩
  | .hbm, ⟨61, _⟩ => ⟨S64x512x1, .f32⟩
  | .hbm, ⟨62, _⟩ => ⟨S_, .f32⟩
  | .hbm, ⟨63, _⟩ => ⟨S64x512x1, .f32⟩
  | .hbm, ⟨64, _⟩ => ⟨S64x512x1, .f32⟩
  | .hbm, ⟨65, _⟩ => ⟨S64x512x768, .f32⟩
  | .hbm, ⟨66, _⟩ => ⟨S64x512x768, .f32⟩
  | .hbm, ⟨67, _⟩ => ⟨S64x512x768, .f32⟩
  | .hbm, ⟨68, _⟩ => ⟨S_, .f32⟩
  | .hbm, ⟨69, _⟩ => ⟨S64x512, .f32⟩
  | .hbm, ⟨70, _⟩ => ⟨S64x512x1, .f32⟩
  | .hbm, ⟨71, _⟩ => ⟨S_, .f32⟩
  | .hbm, ⟨72, _⟩ => ⟨S64x512x1, .f32⟩
  | .hbm, ⟨73, _⟩ => ⟨S64x512x1, .f32⟩
  | .hbm, ⟨74, _⟩ => ⟨S64x512x768, .f32⟩
  | .hbm, ⟨75, _⟩ => ⟨S64x512x768, .f32⟩
  | .hbm, ⟨76, _⟩ => ⟨S_, .f32⟩
  | .hbm, ⟨77, _⟩ => ⟨S64x512x1, .f32⟩
  | .hbm, ⟨78, _⟩ => ⟨S64x512x1, .f32⟩
  | .hbm, ⟨79, _⟩ => ⟨S64x512x1, .f32⟩
  | .hbm, ⟨80, _⟩ => ⟨S64x512x768, .f32⟩
  | .hbm, ⟨81, _⟩ => ⟨S64x512x768, .f32⟩
  | .hbm, ⟨82, _⟩ => ⟨S1x1x768, .f32⟩
  | .hbm, ⟨83, _⟩ => ⟨S64x512x768, .f32⟩
  | .hbm, ⟨84, _⟩ => ⟨S64x512x768, .f32⟩
  | .hbm, ⟨85, _⟩ => ⟨S1x1x768, .f32⟩
  | .hbm, ⟨86, _⟩ => ⟨S64x512x768, .f32⟩
  | .hbm, ⟨87, _⟩ => ⟨S64x512x768, .f32⟩
  | _, _ => ⟨S64x512x69, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_1 : Ref sig .tc := ⟨.hbm, 68, rfl⟩
abbrev main_v15 : Ref sig .tc := ⟨.hbm, 69, rfl⟩
abbrev main_v16 : Ref sig .tc := ⟨.hbm, 70, rfl⟩
abbrev main_cst_2 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_cst_3 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Launch.lean ====
/- The launch of the fused embedding kernel: the arrays when the grid starts, the triple of the kernel's body,
   and the run of the whole program, for any reading of the floats. The host operations ahead of the grid include a
   concatenation of three arrays, so nothing here is taken from a generated frame. The idealised program has the
   same text, and what is proved here is read at both. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Embed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the grid starts -/

/-- The contents of buffer `b` on core `c` once the host operations have run. -/
abbrev atEntry (c : Dev nD) (b : Ref sig .tc) : Buf (Elt F) ((c : Thread nD τ).loc b) :=
  StableHlo.after hostOps0 (fun b => m (c, b)) b

/-- The buffers that the host operations write, in order. -/
abbrev hostResults : List (Ref sig .tc) :=
  [main_call0_v0, main_call0_v1, main_call0_v2, main_call0_v3, main_call0_v4, main_call0_v5, main_call0_v6,
    main_call0_v7, main_call0_v8, main_call0_v9, main_call0_v10, main_call0_v11, main_call0_v12]

/-- A buffer that is not the result of a host operation is still as launched when the grid starts. -/
theorem atEntry_kept (c : Dev nD) (b : Ref sig .tc) (h : b ∉ hostResults) : atEntry m c b = m ((c : Thread nD τ).loc b) :=
  StableHlo.after_of_writes_sub (W := hostResults) hostOps0 _ (StableHlo.forall_writes_sub_of_map rfl) h

/-- The program up to the grid: the host operations, then the grid with the arrays `atEntry`. -/
theorem program_enters : Pipeline.HMain (Ix := Unit) (Name := ℕ) (U := UR sig nD τ) (Lvl := ℕ) cfgs 0 defs₀ Variants.none m
    (main (F := F)) (atEntry m) :=
  Pipeline.hmain_prefix cfgs 0 defs₀ _ m main hostOps0 hostOps0_sub (StableHlo.forall_fresh_of_map rfl) main_chain

/-- The block of window `w` at grid point `t`, read off the window's array as the grid finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! ## What the body computes -/

/-- The rows of the block before normalisation: the product of the augmented token rows of the four batch elements with
    the augmented weights. -/
def products (x : Vec F S4x512x69 .f32) (ty : Vec F S4x1x512 .i32) (w : Vec F S71x768 .f32) : FVec F S2048x768 .f32 :=
  k0_pay2
    (View.ld x (Rect.unit (s := S4x512x69) ![0, 0, 0] S1x512x69.size inb_S4x512x69_S1x512x69_0_0_0))
    (View.ld x (Rect.unit (s := S4x512x69) ![1, 0, 0] S1x512x69.size inb_S4x512x69_S1x512x69_1_0_0))
    (View.ld x (Rect.unit (s := S4x512x69) ![2, 0, 0] S1x512x69.size inb_S4x512x69_S1x512x69_2_0_0))
    (View.ld x (Rect.unit (s := S4x512x69) ![3, 0, 0] S1x512x69.size inb_S4x512x69_S1x512x69_3_0_0))
    (View.ld ty (Rect.unit (s := S4x1x512) ![0, 0, 0] S1x1x512.size inb_S4x1x512_S1x1x512_0_0_0))
    (View.ld ty (Rect.unit (s := S4x1x512) ![1, 0, 0] S1x1x512.size inb_S4x1x512_S1x1x512_1_0_0))
    (View.ld ty (Rect.unit (s := S4x1x512) ![2, 0, 0] S1x1x512.size inb_S4x1x512_S1x1x512_2_0_0))
    (View.ld ty (Rect.unit (s := S4x1x512) ![3, 0, 0] S1x1x512.size inb_S4x1x512_S1x1x512_3_0_0))
    (View.ld w (Rect.unit (s := S71x768) ![0, 0] S71x768.size inb_S71x768_S71x768_0_0))

/-- The rows of the block after normalisation, scaled and shifted. -/
def normalised (x : Vec F S4x512x69 .f32) (ty : Vec F S4x1x512 .i32) (w : Vec F S71x768 .f32) (pos : Vec F S512x768 .f32)
    (ga be : Vec F S1x1x768 .f32) : FVec F S2048x768 .f32 :=
  k0_pay3 (products x ty w)
    (View.ld pos (Rect.unit (s := S512x768) ![0, 0] S512x768.size inb_S512x768_S512x768_0_0))
    (View.ld ga (Rect.unit (s := S1x1x768) ![0, 0, 0] S1x1x768.size inb_S1x1x768_S1x1x768_0_0_0))
    (View.ld be (Rect.unit (s := S1x1x768) ![0, 0, 0] S1x1x768.size inb_S1x1x768_S1x1x768_0_0_0))

/-- One batch element of a block of the result, as 512 of the 2048 rows from row `off` on. -/
def slab (off : ℕ) (h : S2048x768.Slices ![off, 0] S512x768) (y : FVec F S2048x768 .f32) : FVec F S1x512x768 .f32 :=
  shapeCast S1x512x768 (extractStridedSlice S512x768 ![off, 0] y h) shapeCasts_S512x768_S1x512x768

/-- The four stores of the body, the last one first: each rectangle with what is written through it. -/
abbrev stores (y : FVec F S2048x768 .f32) : List (View.Piece (Elt F) S4x512x768 .f32) :=
  [⟨Rect.unit (s := S4x512x768) ![3, 0, 0] S1x512x768.size inb_S4x512x768_S1x512x768_3_0_0, slab 1536 slices_S2048x768_o1536_0_S512x768 y⟩,
   ⟨Rect.unit (s := S4x512x768) ![2, 0, 0] S1x512x768.size inb_S4x512x768_S1x512x768_2_0_0, slab 1024 slices_S2048x768_o1024_0_S512x768 y⟩,
   ⟨Rect.unit (s := S4x512x768) ![1, 0, 0] S1x512x768.size inb_S4x512x768_S1x512x768_1_0_0, slab 512 slices_S2048x768_o512_0_S512x768 y⟩,
   ⟨Rect.unit (s := S4x512x768) ![0, 0, 0] S1x512x768.size inb_S4x512x768_S1x512x768_0_0_0, slab 0 slices_S2048x768_o0_0_S512x768 y⟩]

/-- The output block after the body. -/
def written (x : Vec F S4x512x69 .f32) (ty : Vec F S4x1x512 .i32) (w : Vec F S71x768 .f32) (pos : Vec F S512x768 .f32)
    (ga be : Vec F S1x1x768 .f32) : Vec F S4x512x768 .f32 :=
  View.canon (stores (normalised x ty w pos ga be))

/-- The four stores fill the output block. -/
theorem stores_cover (y : FVec F S2048x768 .f32) (i : S4x512x768.Idx) : ∃ pc ∈ stores y, i ∈ pc.1.set :=
  View.cover_of_tiled (stores y) S1x512x768.size (by rfl) i

set_option maxHeartbeats 1000000 in
/-- The body, run on whole buffers, leaves every input buffer as it was and the output buffer at `written` of the inputs. -/
theorem body_triple (c : Dev nD) (E : Set ℕ) (i : grid0.Coords)
    (a1 : Memref sig .tc .vmem S4x512x69 .f32) (h1 : a1.IsWhole) (a2 : Memref sig .tc .vmem S4x1x512 .i32) (h2 : a2.IsWhole)
    (a3 : Memref sig .tc .vmem S71x768 .f32) (h3 : a3.IsWhole) (a4 : Memref sig .tc .vmem S512x768 .f32) (h4 : a4.IsWhole)
    (a5 : Memref sig .tc .vmem S1x1x768 .f32) (h5 : a5.IsWhole) (a6 : Memref sig .tc .vmem S1x1x768 .f32) (h6 : a6.IsWhole)
    (a7 : Memref sig .tc .vmem S4x512x768 .f32) (h7 : a7.IsWhole)
    (x : Vec F S4x512x69 .f32) (ty : Vec F S4x1x512 .i32) (w : Vec F S71x768 .f32) (pos : Vec F S512x768 .f32)
    (ga be : Vec F S1x1x768 .f32) (K : PUnit → sProp 𝕄) :
    iprop(owns (c : Thread nD τ) a1 fullShare x ∗ owns (c : Thread nD τ) a2 fullShare ty ∗ owns (c : Thread nD τ) a3 fullShare w
        ∗ owns (c : Thread nD τ) a4 fullShare pos ∗ owns (c : Thread nD τ) a5 fullShare ga ∗ owns (c : Thread nD τ) a6 fullShare be
        ∗ (∃ d, owns (c : Thread nD τ) a7 fullShare d)
        ∗ (iprop(owns (c : Thread nD τ) a1 fullShare x ∗ owns (c : Thread nD τ) a2 fullShare ty ∗ owns (c : Thread nD τ) a3 fullShare w
            ∗ owns (c : Thread nD τ) a4 fullShare pos ∗ owns (c : Thread nD τ) a5 fullShare ga ∗ owns (c : Thread nD τ) a6 fullShare be
            ∗ owns (c : Thread nD τ) a7 fullShare (written x ty w pos ga be)) -∗ K ⟨⟩))
      ⊢ wp frame (wpE (defs₀ (F := F)) Variants.none c none) E
          (cc0__fused_kernel i a1 h1 a2 h2 a3 h3 a4 h4 a5 h5 a6 h6 a7 h7) K := by
  simp only [cc0__fused_kernel_eq_skeleton]; unfold cc0__fused_kernel_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e1 e2 e3 e4 e5 e6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact (View.read_writes_eq_canon _ _ _ (stores_cover (normalised _ _ _ _ _ _))).trans rfl

/-! ## The grid -/

/-- What the output buffer holds after the body at grid point `t`. -/
abbrev writtenAt (c : Dev nD) (t : Fin cfg0.N) : Vec F S4x512x768 .f32 :=
  written (blockAt m c 0 t) (blockAt m c 1 t) (blockAt m c 2 t) (blockAt m c 3 t) (blockAt m c 4 t) (blockAt m c 5 t)

/-- The proof data of the grid on core `c`: the arrays at entry, and after each point the six inputs' buffers at their
    blocks and the output's buffer at what the body wrote. -/
def gridData (_ : Fin 1) (c : Dev nD) : Dat τ (Elt F) Unit ℕ (UR sig nD τ) ℕ cfg0 c where
  A w := atEntry m c (Pipeline.arrRef spec0 w)
  after w t := match w with
    | ⟨6, _⟩ => writtenAt m c t
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
  Φ _ := Pipeline.ΦA spec0 c
  q _ := fullShare
  owed _ := 0

/-- The arrays of the proof data are those at entry. -/
theorem gridData_arr (c : Dev nD) (w : Fin cfg0.W) : (gridData m 0 c).A w = atEntry m c (Pipeline.arrRef spec0 w) := by
  dsimp only [gridData]

/-- Each input's buffer holds the input's block before the body at every point, whether or not it was fetched there. -/
theorem found (c : Dev nD) (t : Fin cfg0.N) :
    (∀ d, (gridData m 0 c).before 0 t d = blockAt m c 0 t) ∧ (∀ d, (gridData m 0 c).before 1 t d = blockAt m c 1 t)
    ∧ (∀ d, (gridData m 0 c).before 2 t d = blockAt m c 2 t) ∧ (∀ d, (gridData m 0 c).before 3 t d = blockAt m c 3 t)
    ∧ (∀ d, (gridData m 0 c).before 4 t d = blockAt m c 4 t) ∧ (∀ d, (gridData m 0 c).before 5 t d = blockAt m c 5 t) := by
  refine ⟨?_, ?_, ?_, ?_, ?_, ?_⟩ <;> intro d <;>
    refine ((gridData m 0 c).before_in_eq_fetched _ rfl (fun _ => rfl) (fun _ _ _ => rfl) (fun t => ?_) t d).trans ?_ <;>
    first
      | (unfold Dat.fetched Dat.blockOf blockAt; rw [gridData_arr]; try rfl)
      | (dsimp only [gridData]; unfold Dat.blockOf blockAt; try rfl)

/-- What the body leaves: the inputs' blocks, and the output block `writtenAt`. -/
theorem left (c : Dev nD) (t : Fin cfg0.N) :
    (gridData m 0 c).after 0 t = blockAt m c 0 t ∧ (gridData m 0 c).after 1 t = blockAt m c 1 t
    ∧ (gridData m 0 c).after 2 t = blockAt m c 2 t ∧ (gridData m 0 c).after 3 t = blockAt m c 3 t
    ∧ (gridData m 0 c).after 4 t = blockAt m c 4 t ∧ (gridData m 0 c).after 5 t = blockAt m c 5 t
    ∧ (gridData m 0 c).after 6 t = writtenAt m c t := by
  refine ⟨?_, ?_, ?_, ?_, ?_, ?_, ?_⟩ <;> dsimp only [gridData]

/-- The body's precondition at point `t`, window by window. -/
def pointPre (c : Dev nD) (t : Fin cfg0.N) : sProp 𝕄 :=
  iprop((gridData m 0 c).Φ t.castSucc ∗ (gridData m 0 c).owesAt () t.castSucc
    ∗ (∃ d, owns (c : Thread nD τ) (st0_0 t) fullShare ((gridData m 0 c).before 0 t d))
    ∗ (∃ d, owns (c : Thread nD τ) (st0_1 t) fullShare ((gridData m 0 c).before 1 t d))
    ∗ (∃ d, owns (c : Thread nD τ) (st0_2 t) fullShare ((gridData m 0 c).before 2 t d))
    ∗ (∃ d, owns (c : Thread nD τ) (st0_3 t) fullShare ((gridData m 0 c).before 3 t d))
    ∗ (∃ d, owns (c : Thread nD τ) (st0_4 t) fullShare ((gridData m 0 c).before 4 t d))
    ∗ (∃ d, owns (c : Thread nD τ) (st0_5 t) fullShare ((gridData m 0 c).before 5 t d))
    ∗ (∃ d, owns (c : Thread nD τ) (st0_6 t) fullShare ((gridData m 0 c).before 6 t d)))

/-- The body's postcondition at point `t`, window by window. -/
def pointPost (c : Dev nD) (t : Fin cfg0.N) : sProp 𝕄 :=
  iprop((gridData m 0 c).Φ t.succ ∗ (gridData m 0 c).owesAt () t.succ
    ∗ owns (c : Thread nD τ) (st0_0 t) fullShare ((gridData m 0 c).after 0 t)
    ∗ owns (c : Thread nD τ) (st0_1 t) fullShare ((gridData m 0 c).after 1 t)
    ∗ owns (c : Thread nD τ) (st0_2 t) fullShare ((gridData m 0 c).after 2 t)
    ∗ owns (c : Thread nD τ) (st0_3 t) fullShare ((gridData m 0 c).after 3 t)
    ∗ owns (c : Thread nD τ) (st0_4 t) fullShare ((gridData m 0 c).after 4 t)
    ∗ owns (c : Thread nD τ) (st0_5 t) fullShare ((gridData m 0 c).after 5 t)
    ∗ owns (c : Thread nD τ) (st0_6 t) fullShare ((gridData m 0 c).after 6 t))

/-- The body at point `t` takes its precondition to its postcondition. -/
theorem point_triple (c : Dev nD) (t : Fin cfg0.N) :
    pointPre m c t ⊢ wp frame (wpE (defs₀ (F := F)) Variants.none c none) Set.univ (bodyAt0 t) (fun _ => pointPost m c t) := by
  obtain ⟨b0, b1, b2, b3, b4, b5⟩ := found m c t
  obtain ⟨a0, a1, a2, a3, a4, a5, a6⟩ := left m c t
  unfold pointPre pointPost bodyAt0
  simp only [b0, b1, b2, b3, b4, b5]
  rw [show (gridData m 0 c).Φ t.succ = (gridData m 0 c).Φ t.castSucc from rfl,
    show (gridData m 0 c).owesAt () t.succ = (gridData m 0 c).owesAt () t.castSucc from rfl, a0, a1, a2, a3, a4, a5, a6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ _ _ (blockAt m c 0 t) (blockAt m c 1 t)
    (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro Hend
  isplitl [HΦ]; · iexact HΦ
  isplitl [Ho]; · iexact Ho
  iexact Hend

/-- The body meets the grid's obligation at every point. -/
theorem obligation (c : Dev nD) : BodyObligation (gridData (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point_triple m c t) rfl .rfl fun _ => .rfl

/-! ## The run -/

set_option backward.isDefEq.respectTransparency.types false in
set_option maxHeartbeats 800000 in
/-- The program runs to an end, every array of the grid then holds what the proof data says, every other buffer is as it
    was at entry, and every semaphore reads zero. -/
theorem run_grid : θ_run defs (onTc (τ := τ) (main (F := F))) (s₀ m ρ)
    (fun r => (Pipeline.FramePost cfgs (gridData m) 0 (atEntry m)) r ∧ r.2.sem = fun _ => 0) :=
  Pipeline.θ_run_frame (Q' := _) cfgs (gridData m) (0 : Fin 1) launch0 defs₀ Variants.none m ρ main
    (hbody := fun c => (obligation m c).loose) (hshare := fun c => (gridData m 0 c).share_full fun _ => rfl)
    (howed := fun _ _ => rfl) (V := atEntry m) (hmain := program_enters m) (hA := gridData_arr m) (hΦ := fun _ _ => rfl)

/-- The result array at the end of the run, as the grid's blocks leave it. -/
abbrev resultArr (c : Dev nD) : Vec F S64x512x768 .f32 := (gridData m 0 c).arrAt 6 cfg0.N

/-- The program runs to an end with the result array at `resultArr`, the seven arguments as launched, and every semaphore
    at zero. -/
theorem run_result : θ_run defs (onTc (τ := τ) (main (F := F))) ⟨m, fun _ => 0, ρ⟩ (fun r => (∀ c : Dev nD,
      r.2.mem ((c.tc : Thread nD τ).loc main_v0) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_grid m ρ)
  have kept : ∀ b : Ref sig .tc, b ∈ Pipeline.restRefs sig spec0 → b ∉ hostResults →
      r.2.mem ((c.tc : Thread nD τ).loc b) = m ((c.tc : Thread nD τ).loc b) :=
    fun b hb hn => ((h.1 c).2 b hb).trans (atEntry_kept m c b hn)
  have staged : ∀ w : Fin cfg0.W, (cfg0.win w).isOut = false → Pipeline.arrRef spec0 w ∉ hostResults →
      r.2.mem ((c.tc : Thread nD τ).loc (Pipeline.arrRef spec0 w)) = m ((c.tc : Thread nD τ).loc (Pipeline.arrRef spec0 w)) :=
    fun w hw hn => ((h.1 c).1 w).trans (((gridData m 0 c).arrAt_in w hw _).trans ((gridData_arr m c w).trans (atEntry_kept m c _ hn)))
  exact ⟨(h.1 c).1 6, staged 0 rfl (by decide),
    kept main_arg1 (Pipeline.mem_restRefs_of main_arg1 (by decide) (by decide)) (by decide),
    kept main_arg2 (Pipeline.mem_restRefs_of main_arg2 (by decide) (by decide)) (by decide),
    staged 3 rfl (by decide),
    kept main_arg4 (Pipeline.mem_restRefs_of main_arg4 (by decide) (by decide)) (by decide),
    kept main_arg5 (Pipeline.mem_restRefs_of main_arg5 (by decide) (by decide)) (by decide),
    kept main_arg6 (Pipeline.mem_restRefs_of main_arg6 (by decide) (by decide)) (by decide)⟩

/-- The program runs to an end with the seven arguments as launched and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_result m ρ)

end Cert.Embed
-- ==== Proof.SameText.lean ====
/- The kernel and its idealised reading are printed with the same text; here their programs are shown to be equal, so
   that a run of the one is a run of the other. -/
module

public import proofs.«01_k».proof.Defs
public import proofs.«01_k».proof.Proof.Gen.KernelIdeal
public import proofs.«01_k».proof.Proof.Launch

@[expose] public section

set_option maxRecDepth 65536

noncomputable section

namespace Cert.Embed

open Idealize.ShloMosaic

variable {F : FTy → Type} [FloatOps F]

/-- The bodies of the two kernels are the same. -/
theorem bodies_eq : Cert.KernelIdeal.defs₀ (F := F) = Cert.Kernel.defs₀ (F := F) :=
  congrArg (Defs.onTc (nD := Cert.Kernel.nD) (τ := Cert.Kernel.τ) (sig := Cert.Kernel.sig)) (by
    funext l _
    fin_cases l
    rfl)

/-- The bodies together with the grids that call them are the same. -/
theorem defs_eq : Cert.KernelIdeal.defs (F := F) = Cert.Kernel.defs (F := F) :=
  congrArg (Pipeline.defs (Cert.Kernel.pcfgs (F := F))) bodies_eq

end Cert.Embed

end
-- ==== Proof.Norm.lean ====
/- Normalisation of a row of 768 extended reals, written in two ways: by a division by a square root, and by a product
   with a reciprocal square root. They are equal at every row, infinite entries included. -/
module

public import Idealize.ShloMosaic.PureOps.Ideal
public import Idealize.ShloMosaic.Lib.IdealHost

@[expose] public section

noncomputable section

namespace Cert.Embed

open Idealize.ShloMosaic

/-- The length of a row, as the programs write it. -/
abbrev width : EReal := Ideal.ofBits .f32 0x44400000#32

/-- What is added to the variance before the root is taken. -/
abbrev nudge : EReal := Ideal.ofBits .f32 0x2B8CBCCC#32

/-- The mean of a row. -/
def mean (f : Fin 768 → EReal) : EReal := Ideal.div (∑ k, f k) width

/-- The mean of the squared distances of a row from its mean. -/
def variance (f : Fin 768 → EReal) : EReal := Ideal.div (∑ k, (f k - mean f) * (f k - mean f)) width

/-- Entry `h` of the normalised row, divided by the root, then scaled by `g` and shifted by `b`. -/
def layerNorm (f g b : Fin 768 → EReal) (h : Fin 768) : EReal :=
  Ideal.div (f h - mean f) (Ideal.sqrt (variance f + nudge)) * g h + b h

/-- Entry `h` of the normalised row, multiplied by the reciprocal root, then scaled by `g` and shifted by `b`. -/
def fastNorm (f g b : Fin 768 → EReal) (h : Fin 768) : EReal :=
  (f h - mean f) * Ideal.rsqrt (variance f + nudge) * g h + b h

/-- The length of a row is the number 768. -/
theorem width_eq : width = ((768 : ℝ) : EReal) := by
  simp [width, Ideal.ofBits, Ideal.ieee, -EReal.coe_mul]
  try norm_num

/-- What is added to the variance is above zero. -/
theorem nudge_pos : 0 < nudge := by
  simp [nudge, Ideal.ofBits, Ideal.ieee, -EReal.coe_mul]
  try norm_num

/-- A square is not below zero, at the infinities too. -/
theorem square_nonneg (x : EReal) : 0 ≤ x * x := by
  induction x with
  | bot => simp
  | top => simp
  | coe r => exact_mod_cast mul_self_nonneg r

/-- A quotient by the length of a row is not below zero where the dividend is not. -/
theorem div_width_nonneg {x : EReal} (h : 0 ≤ x) : 0 ≤ Ideal.div x width := by
  rw [width_eq, Ideal.div_coe (by norm_num)]
  exact mul_nonneg h (by exact_mod_cast (by norm_num : (0 : ℝ) ≤ 1 / 768))

/-- The variance is not below zero. -/
theorem variance_nonneg (f : Fin 768 → EReal) : 0 ≤ variance f :=
  div_width_nonneg (Finset.sum_nonneg fun k _ => square_nonneg _)

/-- Above zero, a product with the reciprocal root is the quotient by the root, whatever is divided. -/
theorem mul_rsqrt_eq_div_sqrt (x : EReal) {y : EReal} (h : 0 < y) : x * Ideal.rsqrt y = Ideal.div x (Ideal.sqrt y) := by
  induction y with
  | bot => exact absurd h (by simp)
  | top =>
    show x * 0 = Ideal.div x ⊤
    rw [Ideal.div, if_neg (by simp), EReal.inv_top]
  | coe r =>
    have hr : 0 < r := by exact_mod_cast h
    rw [Ideal.rsqrt_coe, Ideal.sqrt_coe, if_neg hr.not_gt, if_neg hr.ne', if_neg hr.not_gt,
      Ideal.div_coe (Real.sqrt_pos.mpr hr).ne', one_div]

/-- The two ways to normalise agree on every row. -/
theorem fastNorm_eq_layerNorm (f g b : Fin 768 → EReal) (h : Fin 768) : fastNorm f g b h = layerNorm f g b h := by
  unfold fastNorm layerNorm
  rw [mul_rsqrt_eq_div_sqrt _ (lt_of_lt_of_le nudge_pos (le_add_of_nonneg_left (variance_nonneg f)))]

/-! ## The embedding of a token -/

/-- Entry `h` of a token's row before normalisation: the token's products with the word table, its position's row, and
    the row of its type. -/
def embedding (x word : Fin 69 → EReal) (pos type : EReal) : EReal := (∑ v, x v * word v) + pos + type

/-- A type of zero or one picks between two rows as one product with their difference and one with the first row, where
    the first row is finite. -/
theorem pick_row (t : BitVec 32) (t0 t1 : EReal) (h0 : t0 ≠ ⊥) (h0' : t0 ≠ ⊤) (ht : t = 0#32 ∨ t = 1#32) :
    ((t.toInt : ℝ) : EReal) * (t1 - t0) + t0 = if t = 0#32 then t0 else t1 := by
  rcases ht with rfl | rfl
  · simp
  · rw [if_neg (by decide)]
    have : ((1#32).toInt : ℝ) = 1 := by norm_num
    rw [this, EReal.coe_one, one_mul]
    induction t0 with
    | bot => exact absurd rfl h0
    | top => exact absurd rfl h0'
    | coe r => exact EReal.sub_add_cancel

end Cert.Embed

end
-- ==== Proof.Block.lean ====
/- What one run of the body computes at exact arithmetic: every row of the output block is the normalised sum of the
   token's products with the augmented weights and the row of its position. -/
module

public import proofs.«01_k».proof.Proof.Launch
public import proofs.«01_k».proof.Proof.Norm
public import Idealize.ShloMosaic.Lib.Pointwise
public import Idealize.ShloMosaic.Lib.IdealHost
public import Idealize.ShloMosaic.Lib.Pipeline.Value

@[expose] public section

set_option maxRecDepth 16384

noncomputable section

namespace Cert.Embed

open Cert.Kernel Cert.Kernel.Gen
open Idealize.ShloMosaic

/-! ## Rows of the four batch elements laid one after the other -/

/-- The batch element, within its block, of row `r` of the 2048. -/
def batchOf (r : Fin 2048) : Fin 4 := ⟨r.val / 512, by omega⟩

/-- The position, within its batch element, of row `r` of the 2048. -/
def placeOf (r : Fin 2048) : Fin 512 := ⟨r.val % 512, by omega⟩

/-- The row of position `s` in batch element `b`. -/
def rowOf (b : Fin 4) (s : Fin 512) : Fin 2048 := ⟨b.val * 512 + s.val, by omega⟩

theorem batchOf_rowOf (b : Fin 4) (s : Fin 512) : batchOf (rowOf b s) = b := by
  ext; simp only [batchOf, rowOf]; omega

theorem placeOf_rowOf (b : Fin 4) (s : Fin 512) : placeOf (rowOf b s) = s := by
  ext; simp only [placeOf, rowOf]; omega

/-- Four runs of 512 rows, told apart by how many 512s fit below the row, are one run over batch element and position. -/
theorem four_runs {α : Type} (g : Fin 4 → Fin 512 → α) (r : Fin 2048) (h3 : r.val - 512 - 512 - 512 < 512) :
    (if h0 : r.val < 512 then g 0 ⟨r.val, h0⟩
      else if h1 : r.val - 512 < 512 then g 1 ⟨r.val - 512, h1⟩
      else if h2 : r.val - 512 - 512 < 512 then g 2 ⟨r.val - 512 - 512, h2⟩
      else g 3 ⟨r.val - 512 - 512 - 512, h3⟩) = g (batchOf r) (placeOf r) := by
  have at_ : ∀ (b : Fin 4) (s : Fin 512), r.val = b.val * 512 + s.val → g b s = g (batchOf r) (placeOf r) := by
    intro b s h
    rw [show r = rowOf b s from Fin.ext h, batchOf_rowOf, placeOf_rowOf]
  split
  · exact at_ 0 _ (by simp)
  split
  · exact at_ 1 _ (by simp; omega)
  split
  · exact at_ 2 _ (by simp; omega)
  · exact at_ 3 _ (by simp; omega)

/-- A sum over the 71 augmented columns is the sum over the 69 words and the last two terms. -/
theorem sum_augmented (f : Fin 71 → EReal) :
    ∑ k, f k = (∑ v : Fin 69, f (v.castLE (by decide))) + f 69 + f 70 := by
  rw [Fin.sum_univ_castSucc, Fin.sum_univ_castSucc]; rfl

/-! ## The rows before normalisation -/

/-- The product of token `r`'s augmented row with column `h` of the augmented weights. -/
theorem products_apply (x : Vec Ideal S4x512x69 .f32) (ty : Vec Ideal S4x1x512 .i32) (w : Vec Ideal S71x768 .f32)
    (r : Fin 2048) (h : Fin 768) :
    products x ty w (ix2 r h)
      = (∑ v : Fin 69, x (ix3 (batchOf r) (placeOf r) v) * w (ix2 (v.castLE (by decide) : Fin 71) h))
        + (((ty (ix3 (batchOf r) 0 (placeOf r))).toInt : ℝ) : EReal) * w (ix2 (69 : Fin 71) h) + w (ix2 (70 : Fin 71) h) := by
  pointwise [products, k0_pay2]
  rw [sum_augmented]
  congr 1
  congr 1
  · refine Finset.sum_congr rfl fun v _ => ?_
    rw [dif_pos (show (v.castLE (by decide : 69 ≤ 71)).val < 69 from v.isLt)]
    congr 1
    exact four_runs (fun b s => x (ix3 b s v)) r (by omega)
  · rw [dif_neg (by decide), dif_pos (by decide), four_runs (fun b s => ty (ix3 b 0 s)) r (by omega)]
    rfl
  · rw [dif_neg (by decide), dif_neg (by decide), one_mul]

/-- The row of the position, under each of the four batch elements. -/
def positions (pos : Vec Ideal S512x768 .f32) : FVec Ideal S2048x768 .f32 :=
  concatenate S2048x768 0 [⟨S512x768, pos⟩, ⟨S512x768, pos⟩, ⟨S512x768, pos⟩, ⟨S512x768, pos⟩]
    concatenates_S512x768_S512x768_S512x768_S512x768_S2048x768_d0

/-- Row `r` is the row of `r`'s position. -/
theorem positions_apply (pos : Vec Ideal S512x768 .f32) (r : Fin 2048) (h : Fin 768) :
    positions pos (ix2 r h) = pos (ix2 (placeOf r) h) := by
  pointwise [positions]
  exact four_runs (fun _ s => pos (ix2 s h)) r (by omega)

/-! ## Normalisation -/

/-- The body's normalisation of 2048 rows. -/
def normalise (v : FVec Ideal S2048x768 .f32) (ga be : Vec Ideal S1x1x768 .f32) : FVec Ideal S2048x768 .f32 :=
  have total := multiReduction .add [1] S2048 v 0x00000000#32 reduces_S2048x768_S2048 (.inl rfl) rfl
  have center := divf (shapeCast S2048x1 total shapeCasts_S2048_S2048x1) (broadcast S2048x1 (Scalar.ofBits .f32 0x44400000#32))
  have off := subf v (broadcastTo S2048x768 center broadcasts_S2048x1_S2048x768)
  have squares := multiReduction .add [1] S2048 (mulf off off) 0x00000000#32 reduces_S2048x768_S2048 (.inl rfl) rfl
  have spread := divf (shapeCast S2048x1 squares shapeCasts_S2048_S2048x1) (broadcast S2048x1 (Scalar.ofBits .f32 0x44400000#32))
  have root := rsqrt (addf spread (broadcast S2048x1 (Scalar.ofBits .f32 0x2B8CBCCC#32)))
  addf (mulf (mulf off (broadcastTo S2048x768 root broadcasts_S2048x1_S2048x768))
      (broadcastTo S2048x768 (shapeCast S1x768 ga shapeCasts_S1x1x768_S1x768) broadcasts_S1x768_S2048x768))
    (broadcastTo S2048x768 (shapeCast S1x768 be shapeCasts_S1x1x768_S1x768) broadcasts_S1x768_S2048x768)

/-- Each entry is that of the row normalised by a product with the reciprocal root. -/
theorem normalise_apply (v : FVec Ideal S2048x768 .f32) (ga be : Vec Ideal S1x1x768 .f32) (r : Fin 2048) (h : Fin 768) :
    normalise v ga be (ix2 r h)
      = fastNorm (fun k => v (ix2 r k)) (fun k => ga (ix3 0 0 k)) (fun k => be (ix3 0 0 k)) h := by
  pointwise [normalise, fastNorm, variance, mean]
  try rfl

/-- One batch element of a block, entry by entry. -/
theorem slab_apply (off : ℕ) (hs : S2048x768.Slices ![off, 0] S512x768) (y : FVec Ideal S2048x768 .f32)
    (s : Fin 512) (k : Fin 768) (hr : off + s.val < 2048) : slab off hs y (ix3 0 s k) = y (ix2 ⟨off + s.val, hr⟩ k) := by
  pointwise [slab]

/-! ## The output block -/

/-- Entry `h` of the row that the body writes for position `s` of batch element `b`, as a function of the body's inputs. -/
def rowWritten (x : Vec Ideal S4x512x69 .f32) (ty : Vec Ideal S4x1x512 .i32) (w : Vec Ideal S71x768 .f32)
    (pos : Vec Ideal S512x768 .f32) (ga be : Vec Ideal S1x1x768 .f32) (b : Fin 4) (s : Fin 512) (h : Fin 768) : EReal :=
  fastNorm (fun k => (∑ v : Fin 69, x (ix3 b s v) * w (ix2 (v.castLE (by decide) : Fin 71) k))
        + (((ty (ix3 b 0 s)).toInt : ℝ) : EReal) * w (ix2 (69 : Fin 71) k) + w (ix2 (70 : Fin 71) k) + pos (ix2 s k))
    (fun k => ga (ix3 0 0 k)) (fun k => be (ix3 0 0 k)) h

/-- Each of the 2048 rows after normalisation. -/
theorem normalised_apply (x : Vec Ideal S4x512x69 .f32) (ty : Vec Ideal S4x1x512 .i32) (w : Vec Ideal S71x768 .f32)
    (pos : Vec Ideal S512x768 .f32) (ga be : Vec Ideal S1x1x768 .f32) (r : Fin 2048) (h : Fin 768) :
    normalised x ty w pos ga be (ix2 r h) = rowWritten x ty w pos ga be (batchOf r) (placeOf r) h := by
  have e : normalised x ty w pos ga be = normalise (addf (products x ty w) (positions pos)) ga be := by
    unfold normalised
    rw [View.ld_unit_zero (by decide), View.ld_unit_zero (by decide), View.ld_unit_zero (by decide)]
    rfl
  rw [e, normalise_apply]
  unfold rowWritten
  congr 1
  funext k
  show products x ty w (ix2 r k) + positions pos (ix2 r k) = _
  rw [products_apply, positions_apply]

/-- The output block, entry by entry. -/
theorem written_apply (x : Vec Ideal S4x512x69 .f32) (ty : Vec Ideal S4x1x512 .i32) (w : Vec Ideal S71x768 .f32)
    (pos : Vec Ideal S512x768 .f32) (ga be : Vec Ideal S1x1x768 .f32) (b : Fin 4) (s : Fin 512) (h : Fin 768) :
    written x ty w pos ga be (ix3 b s h) = rowWritten x ty w pos ga be b s h := by
  have piece : ∀ (o : Fin 4) (hs : S2048x768.Slices ![o.val * 512, 0] S512x768) (hr : ∀ a, (![o.val, 0, 0] : Fin 3 → ℕ) a + S1x512x768.size a ≤ S4x512x768.size a)
      (j : S1x512x768.Idx), slab (o.val * 512) hs (normalised x ty w pos ga be) j
        = (fun i : S4x512x768.Idx => rowWritten x ty w pos ga be (i 0) (i 1) (i 2)) ((Rect.unit (s := S4x512x768) ![o.val, 0, 0] S1x512x768.size hr).emb j) := by
    intro o hs hr j
    idx_vars j
    have e0 : (Rect.unit (s := S4x512x768) ![o.val, 0, 0] S1x512x768.size hr).emb (ix3 j0 j1 j2) = ix3 o j1 j2 := by
      have hj : j0.val = 0 := by omega
      funext a
      match a with
      | ⟨0, _⟩ => exact Fin.ext (by show o.val + 1 * j0.val = o.val; omega)
      | ⟨1, _⟩ => exact Fin.ext (by show 0 + 1 * j1.val = j1.val; omega)
      | ⟨2, _⟩ => exact Fin.ext (by show 0 + 1 * j2.val = j2.val; omega)
    have hz : j0 = 0 := Subsingleton.elim _ _
    subst hz
    show _ = (fun i : S4x512x768.Idx => rowWritten x ty w pos ga be (i 0) (i 1) (i 2)) _
    rw [e0, slab_apply _ _ _ _ _ (by omega)]
    show normalised x ty w pos ga be (ix2 (rowOf o j1) j2) = rowWritten x ty w pos ga be o j1 j2
    rw [normalised_apply, batchOf_rowOf, placeOf_rowOf]
  refine View.canon_apply_of_pieces (Val := Elt Ideal) (fun i : S4x512x768.Idx => rowWritten x ty w pos ga be (i 0) (i 1) (i 2)) _ ?_ _ (stores_cover _ _)
  intro p hp j
  simp only [stores, List.mem_cons, List.not_mem_nil, or_false] at hp
  rcases hp with rfl | rfl | rfl | rfl
  · exact piece 3 slices_S2048x768_o1536_0_S512x768 inb_S4x512x768_S1x512x768_3_0_0 j
  · exact piece 2 slices_S2048x768_o1024_0_S512x768 inb_S4x512x768_S1x512x768_2_0_0 j
  · exact piece 1 slices_S2048x768_o512_0_S512x768 inb_S4x512x768_S1x512x768_1_0_0 j
  · exact piece 0 slices_S2048x768_o0_0_S512x768 inb_S4x512x768_S1x512x768_0_0_0 j

end Cert.Embed

end
-- ==== Proof.Entry.lean ====
/- What the arrays that the host operations compute hold when the grid starts, at exact arithmetic: the token types and
   the scale and shift with axes of extent one added, and the word table with two rows of the type table below it. -/
module

public import proofs.«01_k».proof.Proof.Launch
public import Idealize.ShloMosaic.Lib.Pointwise
public import Idealize.ShloMosaic.Lib.IdealHost
public import Idealize.ShloMosaic.Lib.StableHlo.RunRead

@[expose] public section

set_option maxRecDepth 16384

noncomputable section

namespace Cert.Embed

open Cert.Kernel Cert.Kernel.Gen
open Idealize.ShloMosaic

variable (m : (ℓ : Loc nD τ sig) → Buf (Elt Ideal) ℓ) (c : Dev nD)

/-- The array of token types in the grid is the second argument. -/
theorem entry_types (i : Fin 64) (s : Fin 512) :
    (atEntry m c main_call0_v0 : Vec Ideal S64x1x512 .i32) (ix3 i 0 s) = (m ((c.tc : Thread nD τ).loc main_arg1) : Vec Ideal S64x512 .i32) (ix2 i s) := by
  have e : (atEntry m c main_call0_v0 : Vec Ideal S64x1x512 .i32)
      = shapeCast S64x1x512 (m ((c.tc : Thread nD τ).loc main_arg1) : Vec Ideal S64x512 .i32) shapeCasts_S64x512_S64x1x512 := by
    show StableHlo.after hostOps0 _ _ = _
    after_reads_simp
    rfl
  rw [e]
  pointwise []

/-- The scale in the grid is the sixth argument. -/
theorem entry_scale (k : Fin 768) :
    (atEntry m c main_call0_v1 : Vec Ideal S1x1x768 .f32) (ix3 0 0 k) = (m ((c.tc : Thread nD τ).loc main_arg5) : Vec Ideal S768 .f32) (ix1 k) := by
  have e : (atEntry m c main_call0_v1 : Vec Ideal S1x1x768 .f32)
      = shapeCast S1x1x768 (m ((c.tc : Thread nD τ).loc main_arg5) : Vec Ideal S768 .f32) shapeCasts_S768_S1x1x768 := by
    show StableHlo.after hostOps0 _ _ = _
    after_reads_simp
    rfl
  rw [e]
  pointwise []

/-- The shift in the grid is the seventh argument. -/
theorem entry_shift (k : Fin 768) :
    (atEntry m c main_call0_v2 : Vec Ideal S1x1x768 .f32) (ix3 0 0 k) = (m ((c.tc : Thread nD τ).loc main_arg6) : Vec Ideal S768 .f32) (ix1 k) := by
  have e : (atEntry m c main_call0_v2 : Vec Ideal S1x1x768 .f32)
      = shapeCast S1x1x768 (m ((c.tc : Thread nD τ).loc main_arg6) : Vec Ideal S768 .f32) shapeCasts_S768_S1x1x768 := by
    show StableHlo.after hostOps0 _ _ = _
    after_reads_simp
    rfl
  rw [e]
  pointwise []

/-- The augmented weights as the host operations compute them from the word table and the type table. -/
def augmented (word : Vec Ideal S69x768 .f32) (type : Vec Ideal S2x768 .f32) : Vec Ideal S71x768 .f32 :=
  have row0 := shapeCast S768 (extractStridedSlice S1x768 ![0, 0] type slices_S2x768_S1x768_0_0) shapeCasts_S1x768_S768
  have row1 := shapeCast S768 (extractStridedSlice S1x768 ![1, 0] type slices_S2x768_S1x768_1_0) shapeCasts_S1x768_S768
  concatenate S71x768 0 [⟨S69x768, word⟩, ⟨S1x768, broadcastInDim S1x768 ![1] bcast_S768_S1x768_1 (subf row1 row0 : FVec Ideal S768 .f32)⟩,
    ⟨S1x768, broadcastInDim S1x768 ![1] bcast_S768_S1x768_1 row0⟩]
    concatenates_S69x768_S1x768_S1x768_S71x768_d0

/-- The weights in the grid are the augmented ones. -/
theorem entry_weights : (atEntry m c main_call0_v12 : Vec Ideal S71x768 .f32) = augmented (m ((c.tc : Thread nD τ).loc main_arg2)) (m ((c.tc : Thread nD τ).loc main_arg4)) := by
  show StableHlo.after hostOps0 _ _ = _
  after_reads_simp
  rfl

variable (word : Vec Ideal S69x768 .f32) (type : Vec Ideal S2x768 .f32) (k : Fin 768)

/-- The first 69 rows are the word table. -/
theorem augmented_word (v : Fin 69) : augmented word type (ix2 (v.castLE (by decide) : Fin 71) k) = word (ix2 v k) := by
  pointwise [augmented]
  exact dif_pos v.isLt

/-- The next row is the difference of the two rows of the type table. -/
theorem augmented_difference : augmented word type (ix2 (69 : Fin 71) k) = type (ix2 1 k) - type (ix2 0 k) := by
  pointwise [augmented]

/-- The last row is the first row of the type table. -/
theorem augmented_base : augmented word type (ix2 (70 : Fin 71) k) = type (ix2 0 k) := by
  pointwise [augmented]

end Cert.Embed

end
-- ==== Proof.Array.lean ====
/- What the result array holds after the grid, at exact arithmetic: block `t` is rows `4 t` to `4 t + 3` of the batch, and
   every row is the normalised embedding of its token. -/
module

public import proofs.«01_k».proof.Proof.Block
public import proofs.«01_k».proof.Proof.Entry
public import Idealize.ShloMosaic.Lib.Pipeline.Value

@[expose] public section

set_option maxRecDepth 16384

noncomputable section

namespace Cert.Embed

open Cert.Kernel Cert.Kernel.Gen
open Idealize.ShloMosaic

variable (m : (ℓ : Loc nD τ sig) → Buf (Elt Ideal) ℓ) (c : Dev nD)

/-! ## Where the blocks lie -/

/-- Where each window's block starts at grid point `t`, in units of a block. -/
theorem block_index (t : Fin cfg0.N) :
    (∀ a, win0_0.index t a = (![t.val, 0, 0] : Fin 3 → ℕ) a) ∧ (∀ a, win0_1.index t a = (![t.val, 0, 0] : Fin 3 → ℕ) a)
    ∧ (∀ a, win0_2.index t a = 0) ∧ (∀ a, win0_3.index t a = 0) ∧ (∀ a, win0_4.index t a = 0) ∧ (∀ a, win0_5.index t a = 0)
    ∧ (∀ a, win0_6.index t a = (![t.val, 0, 0] : Fin 3 → ℕ) a) :=
  (by decide +kernel : ∀ t : Fin grid0.N,
    (∀ a, win0_0.index t a = (![t.val, 0, 0] : Fin 3 → ℕ) a) ∧ (∀ a, win0_1.index t a = (![t.val, 0, 0] : Fin 3 → ℕ) a)
    ∧ (∀ a, win0_2.index t a = 0) ∧ (∀ a, win0_3.index t a = 0) ∧ (∀ a, win0_4.index t a = 0) ∧ (∀ a, win0_5.index t a = 0)
    ∧ (∀ a, win0_6.index t a = (![t.val, 0, 0] : Fin 3 → ℕ) a)) t

/-- The batch element that element `b` of block `t` is. -/
def batchAt (t : Fin cfg0.N) (b : Fin 4) : Fin 64 := ⟨t.val * 4 + b.val, by have := t.isLt; have : cfg0.N = 16 := N_0; omega⟩

/-- The words of the block of tokens. -/
theorem block_tokens (t : Fin cfg0.N) (b : Fin 4) (s : Fin 512) (v : Fin 69) :
    (blockAt m c 0 t : Vec Ideal S4x512x69 .f32) (ix3 b s v)
      = (atEntry m c main_arg0 : Vec Ideal S64x512x69 .f32) (ix3 (batchAt t b) s v) := by
  have h := (block_index t).1
  show (atEntry m c main_arg0 : Vec Ideal S64x512x69 .f32) _ = _
  congr 1
  funext a
  match a with
  | ⟨0, _⟩ => exact Fin.ext (by show win0_0.index t 0 * 4 + 1 * b.val = t.val * 4 + b.val; rw [h]; simp)
  | ⟨1, _⟩ => exact Fin.ext (by show win0_0.index t 1 * 512 + 1 * s.val = s.val; rw [h]; simp)
  | ⟨2, _⟩ => exact Fin.ext (by show win0_0.index t 2 * 69 + 1 * v.val = v.val; rw [h]; simp)

/-- The types of the block of tokens. -/
theorem block_types (t : Fin cfg0.N) (b : Fin 4) (s : Fin 512) :
    (blockAt m c 1 t : Vec Ideal S4x1x512 .i32) (ix3 b 0 s)
      = (m ((c.tc : Thread nD τ).loc main_arg1) : Vec Ideal S64x512 .i32) (ix2 (batchAt t b) s) := by
  have h := (block_index t).2.1
  refine Eq.trans ?_ (entry_types m c _ s)
  show (atEntry m c main_call0_v0 : Vec Ideal S64x1x512 .i32) _ = _
  congr 1
  funext a
  match a with
  | ⟨0, _⟩ => exact Fin.ext (by show win0_1.index t 0 * 4 + 1 * b.val = t.val * 4 + b.val; rw [h]; simp)
  | ⟨1, _⟩ => exact Fin.ext (by show win0_1.index t 1 * 1 + 1 * 0 = 0; rw [h]; simp)
  | ⟨2, _⟩ => exact Fin.ext (by show win0_1.index t 2 * 512 + 1 * s.val = s.val; rw [h]; simp)

/-- The block of weights is the whole array. -/
theorem block_weights (t : Fin cfg0.N) : (blockAt m c 2 t : Vec Ideal S71x768 .f32) = atEntry m c main_call0_v12 := by
  have h := (block_index t).2.2.1
  funext j
  show (atEntry m c main_call0_v12 : Vec Ideal S71x768 .f32) _ = _
  congr 1
  funext a
  match a with
  | ⟨0, _⟩ => exact Fin.ext (by show win0_2.index t 0 * 71 + 1 * (j 0).val = (j 0).val; rw [h]; simp)
  | ⟨1, _⟩ => exact Fin.ext (by show win0_2.index t 1 * 768 + 1 * (j 1).val = (j 1).val; rw [h]; simp)

/-- The block of positions is the whole array. -/
theorem block_positions (t : Fin cfg0.N) : (blockAt m c 3 t : Vec Ideal S512x768 .f32) = atEntry m c main_arg3 := by
  have h := (block_index t).2.2.2.1
  funext j
  show (atEntry m c main_arg3 : Vec Ideal S512x768 .f32) _ = _
  congr 1
  funext a
  match a with
  | ⟨0, _⟩ => exact Fin.ext (by show win0_3.index t 0 * 512 + 1 * (j 0).val = (j 0).val; rw [h]; simp)
  | ⟨1, _⟩ => exact Fin.ext (by show win0_3.index t 1 * 768 + 1 * (j 1).val = (j 1).val; rw [h]; simp)

/-- The block of scales has the entries of the sixth argument. -/
theorem block_scale (t : Fin cfg0.N) (k : Fin 768) : (blockAt m c 4 t : Vec Ideal S1x1x768 .f32) (ix3 0 0 k)
    = (m ((c.tc : Thread nD τ).loc main_arg5) : Vec Ideal S768 .f32) (ix1 k) := by
  have h := (block_index t).2.2.2.2.1
  refine Eq.trans ?_ (entry_scale m c k)
  show (atEntry m c main_call0_v1 : Vec Ideal S1x1x768 .f32) _ = _
  congr 1
  funext a
  match a with
  | ⟨0, _⟩ => exact Fin.ext (by show win0_4.index t 0 * 1 + 1 * 0 = 0; rw [h])
  | ⟨1, _⟩ => exact Fin.ext (by show win0_4.index t 1 * 1 + 1 * 0 = 0; rw [h])
  | ⟨2, _⟩ => exact Fin.ext (by show win0_4.index t 2 * 768 + 1 * k.val = k.val; rw [h]; simp)

/-- The block of shifts has the entries of the seventh argument. -/
theorem block_shift (t : Fin cfg0.N) (k : Fin 768) : (blockAt m c 5 t : Vec Ideal S1x1x768 .f32) (ix3 0 0 k)
    = (m ((c.tc : Thread nD τ).loc main_arg6) : Vec Ideal S768 .f32) (ix1 k) := by
  have h := (block_index t).2.2.2.2.2.1
  refine Eq.trans ?_ (entry_shift m c k)
  show (atEntry m c main_call0_v2 : Vec Ideal S1x1x768 .f32) _ = _
  congr 1
  funext a
  match a with
  | ⟨0, _⟩ => exact Fin.ext (by show win0_5.index t 0 * 1 + 1 * 0 = 0; rw [h])
  | ⟨1, _⟩ => exact Fin.ext (by show win0_5.index t 1 * 1 + 1 * 0 = 0; rw [h])
  | ⟨2, _⟩ => exact Fin.ext (by show win0_5.index t 2 * 768 + 1 * k.val = k.val; rw [h]; simp)

/-! ## The result -/

/-- Entry `h` of the row that the kernel computes for token `s` of batch element `i`, as a function of the arguments. -/
def rowComputed (x : Vec Ideal S64x512x69 .f32) (ty : Vec Ideal S64x512 .i32) (word : Vec Ideal S69x768 .f32)
    (pos : Vec Ideal S512x768 .f32) (type : Vec Ideal S2x768 .f32) (ga be : Vec Ideal S768 .f32)
    (i : Fin 64) (s : Fin 512) (h : Fin 768) : EReal :=
  fastNorm (fun k => (∑ v : Fin 69, x (ix3 i s v) * word (ix2 v k))
        + (((ty (ix2 i s)).toInt : ℝ) : EReal) * (type (ix2 1 k) - type (ix2 0 k)) + type (ix2 0 k) + pos (ix2 s k))
    (fun k => ga (ix1 k)) (fun k => be (ix1 k)) h

/-- The result array as a function of the arguments. -/
def computed : Vec Ideal S64x512x768 .f32 := fun j =>
  rowComputed (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (j 0) (j 1) (j 2)

/-- A row written from blocks whose entries are those of the arguments is the row computed from the arguments. -/
theorem rowWritten_eq {x : Vec Ideal S4x512x69 .f32} {ty : Vec Ideal S4x1x512 .i32} {w : Vec Ideal S71x768 .f32}
    {pos : Vec Ideal S512x768 .f32} {ga be : Vec Ideal S1x1x768 .f32} {b : Fin 4}
    {X : Vec Ideal S64x512x69 .f32} {Ty : Vec Ideal S64x512 .i32} {word : Vec Ideal S69x768 .f32}
    {type : Vec Ideal S2x768 .f32} {Ga Be : Vec Ideal S768 .f32} {i : Fin 64} {s : Fin 512} (h : Fin 768)
    (hx : ∀ v, x (ix3 b s v) = X (ix3 i s v)) (hty : ty (ix3 b 0 s) = Ty (ix2 i s)) (hw : w = augmented word type)
    (hga : ∀ k, ga (ix3 0 0 k) = Ga (ix1 k)) (hbe : ∀ k, be (ix3 0 0 k) = Be (ix1 k)) :
    rowWritten x ty w pos ga be b s h = rowComputed X Ty word pos type Ga Be i s h := by
  subst hw
  unfold rowWritten rowComputed
  simp only [hx, hty, hga, hbe, augmented_word, augmented_difference, augmented_base]

/-- What the body leaves in the output block at point `t` is the block's part of `computed`. -/
theorem writtenAt_apply (t : Fin cfg0.N) (b : Fin 4) (s : Fin 512) (h : Fin 768) :
    writtenAt m c t (ix3 b s h) = computed m c (ix3 (batchAt t b) s h) := by
  have ep : (blockAt m c 3 t : Vec Ideal S512x768 .f32) = m ((c.tc : Thread nD τ).loc main_arg3) :=
    (block_positions m c t).trans (atEntry_kept m c main_arg3 (by decide))
  refine (written_apply _ _ _ _ _ _ b s h).trans ?_
  rw [ep]
  exact rowWritten_eq h
    (fun v => (block_tokens m c t b s v).trans (congrFun (atEntry_kept m c main_arg0 (by decide)) _))
    (block_types m c t b s) ((block_weights m c t).trans (entry_weights m c)) (block_scale m c t) (block_shift m c t)

/-- An index of an output block, in the result array. -/
theorem block_place (t : Fin cfg0.N) (b : Fin 4) (s : Fin 512) (h : Fin 768) :
    ((cfg0.win 6).blk t).view.emb (ix3 b s h) = (ix3 (batchAt t b) s h : S64x512x768.Idx) := by
  have e := (block_index t).2.2.2.2.2.2
  funext a
  match a with
  | ⟨0, _⟩ => exact Fin.ext (by show win0_6.index t 0 * 4 + 1 * b.val = t.val * 4 + b.val; rw [e]; simp)
  | ⟨1, _⟩ => exact Fin.ext (by show win0_6.index t 1 * 512 + 1 * s.val = s.val; rw [e]; simp)
  | ⟨2, _⟩ => exact Fin.ext (by show win0_6.index t 2 * 768 + 1 * h.val = h.val; rw [e]; simp)

/-- What point `t` writes back is its block of `computed`. -/
theorem flushed_eq (t : Fin cfg0.N) :
    (gridData m 0 c).flushed 6 t = ((cfg0.win 6).blk t).view.read (Elt Ideal) (computed m c) := by
  show (cfg0.win 6).cut (grid0.coords t) ((gridData m 0 c).after 6 t) = _
  rw [(left m c t).2.2.2.2.2.2]
  funext (j : S4x512x768.Idx)
  idx_vars j
  show writtenAt m c t (ix3 j0 j1 j2) = computed m c (((cfg0.win 6).blk t).view.emb (ix3 j0 j1 j2))
  rw [block_place, writtenAt_apply]

/-- Every index of the result is in the block of some point. -/
theorem covered (j : S64x512x768.Idx) : ∃ t : Fin cfg0.N, (cfg0.win 6).flush t = true ∧ j ∈ ((cfg0.win 6).blk t).view.set := by
  idx_vars j
  have ht : j0.val / 4 < cfg0.N := by rw [show cfg0.N = 16 from N_0]; omega
  refine ⟨⟨j0.val / 4, ht⟩, flush0_6 _, ?_⟩
  have e := block_place ⟨j0.val / 4, ht⟩ ⟨j0.val % 4, by omega⟩ j1 j2
  rw [show batchAt ⟨j0.val / 4, ht⟩ ⟨j0.val % 4, by omega⟩ = j0 from
    Fin.ext (by show j0.val / 4 * 4 + j0.val % 4 = j0.val; omega)] at e
  exact e ▸ View.emb_mem_set ((cfg0.win 6).blk ⟨j0.val / 4, ht⟩).view _

/-- The result array is `computed`. -/
theorem resultArr_eq : resultArr m c = computed m c :=
  (gridData m 0 c).arrAt_eq_of_cover 6 (computed m c) (fun t _ => flushed_eq m c t) covered

end Cert.Embed

end
-- ==== Proof.Take.lean ====
/- The reference's two look-ups read at an index: the row of the position table at each position, and the row of the type
   table that each token's type names. Where an index is in range, neither the wrap of a negative index nor the fill of
   an index out of range takes effect. -/
module

public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.Routing.Ops
public import Idealize.ShloMosaic.Lib.Routing.OpsPair
public import Idealize.ShloMosaic.Lib.Routing.OpsOrder

@[expose] public section

set_option maxRecDepth 16384

noncomputable section

namespace Cert.Embed.Ref

open Cert.ReferenceIdeal Cert.ReferenceIdeal.Gen
open Idealize.ShloMosaic

/-- The look-up of rows of a two-row table by a matrix of row numbers, where the number of row is in range. -/
theorem gather_types {α : Type} (table : S2x768.Idx → α) (idx : IVec S64x512x1 32) (i : Fin 64) (s : Fin 512) (k : Fin 768)
    (b : Fin 2) (hb : idx (ix3 i s 0) = BitVec.ofNat 32 b.val) :
    Host.gather gather_S2x768_S64x512x1_S64x512x768_2_0_n_n_0_2_1768 table idx (ix3 i s k) = table (ix2 b k) := by
  unfold Host.gather
  congr 1
  funext a
  refine Fin.ext ?_
  have hi : idx (gather_S2x768_S64x512x1_S64x512x768_2_0_n_n_0_2_1768.siIdx (ix3 i s k) ⟨0, by decide⟩) = BitVec.ofNat 32 b.val := by
    rw [← hb]
    congr 1
    funext a'
    match a' with
    | ⟨0, _⟩ => rfl
    | ⟨1, _⟩ => rfl
    | ⟨2, _⟩ => rfl
  match a with
  | ⟨0, _⟩ =>
    show min (idx (gather_S2x768_S64x512x1_S64x512x768_2_0_n_n_0_2_1768.siIdx (ix3 i s k) ⟨0, by decide⟩)).toInt.toNat (2 - 1) + 0 + 0 = b.val
    rw [hi]
    fin_cases b <;> rfl
  | ⟨1, _⟩ => show 0 + 0 + k.val = k.val; omega

/-! ## The rows of the position table -/

/-- The index of each position after the wrap. -/
def positionIndex : IVec S512 32 :=
  select (cmpi .slt (iotaInDim S512 32 0) (broadcastInDim S512 ![] bcast_S_S512 (constantI S_ 32 0#32)))
    (addi (iotaInDim S512 32 0) (broadcastInDim S512 ![] bcast_S_S512 (constantI S_ 32 512#32))) (iotaInDim S512 32 0)

/-- Which positions are in the table. -/
def positionMask : IVec S512 1 :=
  Host.reduce IntOp.andi
    (andi (cmpi .sge (broadcastInDim S512x1 ![0] bcast_S512_S512x1_0 positionIndex) (broadcastInDim S512x1 ![] bcast_S_S512x1 (constantI S_ 32 0#32)))
      (cmpi .sle (broadcastInDim S512x1 ![0] bcast_S512_S512x1_0 positionIndex)
        (broadcastInDim S512x1 ![0, 1] bcast_S1x1_S512x1_0_1 (broadcastInDim S1x1 ![1] bcast_S1_S1x1_1 (constantI S1 32 511#32)))))
    (constantI S_ 1 1#1) reducesTo_S512x1_S512_d1 h_S_

/-- The rows of the table at the positions. -/
def positionRows (table : Vec Ideal S512x768 .f32) : FVec Ideal S512x768 .f32 :=
  select (broadcastInDim S512x768 ![0] bcast_S512_S512x768_0 positionMask)
    (Host.gather gather_S512x768_S512x1_S512x768_1_0_n_n_0_1_1768 table (broadcastInDim S512x1 ![0] bcast_S512_S512x1_0 positionIndex))
    (broadcastInDim S512x768 ![] bcast_S_S512x768 (constant S_ .f32 0x7FC00000#32))

/-- The index of each position is the position. -/
theorem positionIndex_apply (s : Fin 512) : positionIndex (ix1 s) = BitVec.ofNat 32 s.val := by
  pointwise [positionIndex]
  exact Routing.wrap_of_lt _ _ (by rw [BitVec.toNat_ofNat]; omega)

/-- A position's word is between 0 and 511. -/
theorem position_in_range : ∀ s : Fin 512,
    IntOp.andi (IntOp.cmpi .sge (BitVec.ofNat 32 s.val) 0#32) (IntOp.cmpi .sle (BitVec.ofNat 32 s.val) 511#32) = 1#1 := by
  decide +kernel

/-- Every position is in the table. -/
theorem positionMask_apply (s : Fin 512) : positionMask (ix1 s) = 1#1 := by
  pointwise [positionMask, positionIndex_apply, position_in_range]
  decide

/-- The row at position `s` is row `s` of the table. -/
theorem positionRows_apply (table : Vec Ideal S512x768 .f32) (s : Fin 512) (k : Fin 768) :
    positionRows table (ix2 s k) = table (ix2 s k) := by
  have e : Host.gather gather_S512x768_S512x1_S512x768_1_0_n_n_0_1_1768 table (broadcastInDim S512x1 ![0] bcast_S512_S512x1_0 positionIndex)
      (ix2 s k) = table (ix2 s k) := by
    refine Routing.gather_row _ rfl rfl rfl rfl rfl table _ s k s ?_ (by decide)
    pointwise [positionIndex_apply]
  pointwise [positionRows, positionMask_apply]
  exact e

/-! ## The rows of the type table -/

/-- The index of each token's type after the wrap. -/
def typeIndex (ty : Vec Ideal S64x512 .i32) : IVec S64x512 32 :=
  select (cmpi .slt ty (broadcastInDim S64x512 ![] bcast_S_S64x512 (constantI S_ 32 0#32)))
    (addi ty (broadcastInDim S64x512 ![] bcast_S_S64x512 (constantI S_ 32 2#32))) ty

/-- Which types are in the table. -/
def typeMask (ty : Vec Ideal S64x512 .i32) : IVec S64x512 1 :=
  Host.reduce IntOp.andi
    (andi (cmpi .sge (broadcastInDim S64x512x1 ![0, 1] bcast_S64x512_S64x512x1_0_1 (typeIndex ty)) (broadcastInDim S64x512x1 ![] bcast_S_S64x512x1 (constantI S_ 32 0#32)))
      (cmpi .sle (broadcastInDim S64x512x1 ![0, 1] bcast_S64x512_S64x512x1_0_1 (typeIndex ty))
        (broadcastInDim S64x512x1 ![0, 1, 2] bcast_S1x1x1_S64x512x1_0_1_2 (broadcastInDim S1x1x1 ![2] bcast_S1_S1x1x1_2 (constantI S1 32 1#32)))))
    (constantI S_ 1 1#1) reducesTo_S64x512x1_S64x512_d2 h_S_

/-- The rows of the table that the tokens' types name. -/
def typeRows (table : Vec Ideal S2x768 .f32) (ty : Vec Ideal S64x512 .i32) : FVec Ideal S64x512x768 .f32 :=
  select (broadcastInDim S64x512x768 ![0, 1] bcast_S64x512_S64x512x768_0_1 (typeMask ty))
    (Host.gather gather_S2x768_S64x512x1_S64x512x768_2_0_n_n_0_2_1768 table (broadcastInDim S64x512x1 ![0, 1] bcast_S64x512_S64x512x1_0_1 (typeIndex ty)))
    (broadcastInDim S64x512x768 ![] bcast_S_S64x512x768 (constant S_ .f32 0x7FC00000#32))

/-- The row of a token is the first or the second of the table, as its type is zero or one. -/
theorem typeRows_apply (table : Vec Ideal S2x768 .f32) (ty : Vec Ideal S64x512 .i32) (i : Fin 64) (s : Fin 512) (k : Fin 768)
    (h : ty (ix2 i s) = 0#32 ∨ ty (ix2 i s) = 1#32) :
    typeRows table ty (ix3 i s k) = if ty (ix2 i s) = 0#32 then table (ix2 0 k) else table (ix2 1 k) := by
  have ei : typeIndex ty (ix2 i s) = ty (ix2 i s) := by
    pointwise [typeIndex]
    exact Routing.wrap_of_lt _ _ (by rcases h with h | h <;> rw [h] <;> decide)
  have em : typeMask ty (ix2 i s) = 1#1 := by
    pointwise [typeMask, ei]
    rcases h with h | h <;> rw [h] <;> decide
  have eg : ∀ b : Fin 2, ty (ix2 i s) = BitVec.ofNat 32 b.val →
      Host.gather gather_S2x768_S64x512x1_S64x512x768_2_0_n_n_0_2_1768 table (broadcastInDim S64x512x1 ![0, 1] bcast_S64x512_S64x512x1_0_1 (typeIndex ty))
        (ix3 i s k) = table (ix2 b k) := fun b hb => by
    refine gather_types table _ i s k b ?_
    pointwise [ei]
    exact hb
  pointwise [typeRows, em]
  rcases h with h | h
  · rw [eg 0 h, if_pos h]
  · rw [eg 1 h, if_neg (by rw [h]; decide)]

end Cert.Embed.Ref

end
-- ==== Proof.Reference.lean ====
/- What the reference computes, at exact arithmetic: the normalised embedding of every token. -/
module

public import proofs.«01_k».proof.Proof.Take
public import proofs.«01_k».proof.Proof.Norm

@[expose] public section

set_option maxRecDepth 16384

noncomputable section

namespace Cert.Embed.Ref

open Cert.ReferenceIdeal Cert.ReferenceIdeal.Gen
open Idealize.ShloMosaic

/-- The tokens' rows before normalisation: products with the word table, plus the rows of the positions, plus the rows of
    the types. -/
def rows (x : Vec Ideal S64x512x69 .f32) (ty : Vec Ideal S64x512 .i32) (word : Vec Ideal S69x768 .f32)
    (pos : Vec Ideal S512x768 .f32) (type : Vec Ideal S2x768 .f32) : FVec Ideal S64x512x768 .f32 :=
  addf (addf (Host.dotGeneral (φ₁ := .f32) (φ₂ := .f32) dot_S64x512x69_S69x768_S64x512x768_2_0_01_1_n_n none x word)
    (broadcastInDim S64x512x768 ![0, 1, 2] bcast_S1x512x768_S64x512x768_0_1_2
      (broadcastInDim S1x512x768 ![1, 2] bcast_S512x768_S1x512x768_1_2 (positionRows pos)))) (typeRows type ty)

/-- The mean along the last axis, the axis kept with one lane. -/
def average (v : FVec Ideal S64x512x768 .f32) : FVec Ideal S64x512x1 .f32 :=
  Host.divf (broadcastInDim S64x512x1 ![0, 1] bcast_S64x512_S64x512x1_0_1
      (Host.reduceAdd v (constant S_ .f32 0x00000000#32) reducesTo_S64x512x768_S64x512_d2 h_S_))
    (broadcastInDim S64x512x1 ![] bcast_S_S64x512x1 (constant S_ .f32 0x44400000#32))

/-- An array less its means along the last axis. -/
def centred (v : FVec Ideal S64x512x768 .f32) : FVec Ideal S64x512x768 .f32 :=
  subf v (broadcastInDim S64x512x768 ![0, 1, 2] bcast_S64x512x1_S64x512x768_0_1_2 (average v))

/-- The reference's normalisation along the last axis, scaled and shifted. -/
def normalised (v : FVec Ideal S64x512x768 .f32) (ga be : Vec Ideal S768 .f32) : FVec Ideal S64x512x768 .f32 :=
  addf (mulf (Host.divf (centred v) (broadcastInDim S64x512x768 ![0, 1, 2] bcast_S64x512x1_S64x512x768_0_1_2
        (Host.sqrt (addf (average (mulf (centred v) (centred v)))
          (broadcastInDim S64x512x1 ![] bcast_S_S64x512x1 (constant S_ .f32 0x2B8CBCCC#32))))))
      (broadcastInDim S64x512x768 ![0, 1, 2] bcast_S1x1x768_S64x512x768_0_1_2 (broadcastInDim S1x1x768 ![2] bcast_S768_S1x1x768_2 ga)))
    (broadcastInDim S64x512x768 ![0, 1, 2] bcast_S1x1x768_S64x512x768_0_1_2 (broadcastInDim S1x1x768 ![2] bcast_S768_S1x1x768_2 be))

/-- The average of an array at a token is the mean of the token's row. -/
theorem average_apply (v : FVec Ideal S64x512x768 .f32) (i : Fin 64) (s : Fin 512) :
    average v (ix3 i s 0) = mean (fun k => v (ix3 i s k)) := by
  pointwise [average, mean]

/-- An entry less the mean of its row. -/
theorem centred_apply (v : FVec Ideal S64x512x768 .f32) (i : Fin 64) (s : Fin 512) (h : Fin 768) :
    centred v (ix3 i s h) = v (ix3 i s h) - mean (fun k => v (ix3 i s k)) := by
  pointwise [centred, average_apply]

/-- The reference's normalisation is the normalisation of each row. -/
theorem normalised_apply (v : FVec Ideal S64x512x768 .f32) (ga be : Vec Ideal S768 .f32) (i : Fin 64) (s : Fin 512) (h : Fin 768) :
    normalised v ga be (ix3 i s h)
      = layerNorm (fun k => v (ix3 i s k)) (fun k => ga (ix1 k)) (fun k => be (ix1 k)) h := by
  pointwise [normalised, centred_apply, average_apply, layerNorm, variance]
  rfl

/-- A token's row before normalisation, where its type is zero or one. -/
theorem rows_apply (x : Vec Ideal S64x512x69 .f32) (ty : Vec Ideal S64x512 .i32) (word : Vec Ideal S69x768 .f32)
    (pos : Vec Ideal S512x768 .f32) (type : Vec Ideal S2x768 .f32) (i : Fin 64) (s : Fin 512) (k : Fin 768)
    (h : ty (ix2 i s) = 0#32 ∨ ty (ix2 i s) = 1#32) :
    rows x ty word pos type (ix3 i s k)
      = embedding (fun v => x (ix3 i s v)) (fun v => word (ix2 v k)) (pos (ix2 s k))
          (if ty (ix2 i s) = 0#32 then type (ix2 0 k) else type (ix2 1 k)) := by
  rw [← typeRows_apply type ty i s k h]
  pointwise [rows, positionRows_apply, embedding]

/-- The reference's result is the normalisation of the tokens' rows. -/
theorem result_eq (m : (ℓ : Loc nD τ sig) → Buf (Elt Ideal) ℓ) (c : Dev nD) :
    Value.res_out0 m c = normalised (rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  unfold Value.res_out0 Value.res_main_v31
  rfl

end Cert.Embed.Ref

end
-- ==== Proof.Equation.lean ====
/- The equation: where every token's type is zero or one and the first type's row is finite, the array that the kernel
   computes is the array that the reference computes. -/
module

public import proofs.«01_k».proof.Proof.Array
public import proofs.«01_k».proof.Proof.Reference
public import proofs.«01_k».proof.Pre_binary_types_finite_base

@[expose] public section

set_option maxRecDepth 16384

noncomputable section

namespace Cert.Embed

open Cert.Kernel
open Idealize.ShloMosaic

/-! ## What the precondition says at an index -/

/-- A word at least zero and below two is zero or one. -/
theorem word_binary (t : BitVec 32) (h : IntOp.andi (IntOp.cmpi .sge t 0#32) (IntOp.cmpi .slt t 2#32) = 1#1) :
    t = 0#32 ∨ t = 1#32 := by
  have h' : (BitVec.ofBool ((0#32).sle t) &&& BitVec.ofBool (t.slt 2#32)) = 1#1 := h
  have hb : ((0#32).sle t) = true ∧ (t.slt 2#32) = true := by
    revert h'
    cases (0#32).sle t <;> cases t.slt 2#32 <;> decide
  have h0 : (0 : ℤ) ≤ t.toInt := by simpa [BitVec.sle] using hb.1
  have h2 : t.toInt < 2 := by simpa [BitVec.slt] using hb.2
  have hcases : t.toInt = (0#32).toInt ∨ t.toInt = (1#32).toInt := by
    rw [show (0#32 : BitVec 32).toInt = 0 from by decide, show (1#32 : BitVec 32).toInt = 1 from by decide]
    omega
  exact hcases.imp BitVec.eq_of_toInt_eq BitVec.eq_of_toInt_eq

/-- A number whose absolute value is below the top is not an infinity. -/
theorem finite_of_abs (x : EReal) (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  constructor <;> rintro rfl <;> simp [Ideal.cmp] at h

variable [Cert.Pre_binary_types_finite_base.Facts]

/-- Under the precondition every type is zero or one. -/
theorem pre_types (x : Vec Ideal S64x512x69 .f32) (ty : Vec Ideal S64x512 .i32) (word : Vec Ideal S69x768 .f32)
    (pos : Vec Ideal S512x768 .f32) (type : Vec Ideal S2x768 .f32) (ga be : Vec Ideal S768 .f32)
    (h : (Cert.Pre_binary_types_finite_base.fn (F := Ideal) x ty word pos type ga be).1 = fun _ => 1#1) (i : Fin 64) (s : Fin 512) :
    ty (ix2 i s) = 0#32 ∨ ty (ix2 i s) = 1#32 := by
  apply word_binary
  have e := congrFun h (ix2 i s)
  rw [← e]
  pointwise [Cert.Pre_binary_types_finite_base.fn]

/-- Under the precondition the first type's row is finite. -/
theorem pre_finite (x : Vec Ideal S64x512x69 .f32) (ty : Vec Ideal S64x512 .i32) (word : Vec Ideal S69x768 .f32)
    (pos : Vec Ideal S512x768 .f32) (type : Vec Ideal S2x768 .f32) (ga be : Vec Ideal S768 .f32)
    (h : (Cert.Pre_binary_types_finite_base.fn (F := Ideal) x ty word pos type ga be).2 = fun _ => 1#1) (k : Fin 768) :
    type (ix2 0 k) ≠ ⊥ ∧ type (ix2 0 k) ≠ ⊤ := by
  apply finite_of_abs
  have e := congrFun h (ix1 k)
  rw [← e]
  pointwise [Cert.Pre_binary_types_finite_base.fn]
  rfl

/-! ## The two rows -/

omit [Cert.Pre_binary_types_finite_base.Facts] in
/-- The row that the kernel computes is the normalised embedding of the token. -/
theorem rowComputed_eq (x : Vec Ideal S64x512x69 .f32) (ty : Vec Ideal S64x512 .i32) (word : Vec Ideal S69x768 .f32)
    (pos : Vec Ideal S512x768 .f32) (type : Vec Ideal S2x768 .f32) (ga be : Vec Ideal S768 .f32)
    (ht : ∀ i s, ty (ix2 i s) = 0#32 ∨ ty (ix2 i s) = 1#32) (hf : ∀ k, type (ix2 0 k) ≠ ⊥ ∧ type (ix2 0 k) ≠ ⊤)
    (i : Fin 64) (s : Fin 512) (h : Fin 768) :
    rowComputed x ty word pos type ga be i s h
      = Ref.normalised (Ref.rows x ty word pos type) ga be (ix3 i s h) := by
  rw [rowComputed, fastNorm_eq_layerNorm, Ref.normalised_apply]
  refine congrArg (fun f => layerNorm f _ _ h) (funext fun k => ?_)
  rw [Ref.rows_apply x ty word pos type i s k (ht i s), embedding, ← pick_row _ _ _ (hf k).1 (hf k).2 (ht i s), add_assoc _ _ (type (ix2 0 k)),
    add_right_comm]

/-- Under the precondition, from equal arguments the kernel's array is the reference's result. -/
theorem computed_eq_result (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (x : Vec Ideal S64x512x69 .f32) (ty : Vec Ideal S64x512 .i32) (word : Vec Ideal S69x768 .f32)
    (pos : Vec Ideal S512x768 .f32) (type : Vec Ideal S2x768 .f32) (ga be : Vec Ideal S768 .f32)
    (hp : (Cert.Pre_binary_types_finite_base.fn (F := Ideal) x ty word pos type ga be).1 = (fun _ => 1#1)
      ∧ (Cert.Pre_binary_types_finite_base.fn (F := Ideal) x ty word pos type ga be).2 = fun _ => 1#1)
    (hc : computed m c = fun j => rowComputed x ty word pos type ga be (j 0) (j 1) (j 2))
    (hr : Cert.ReferenceIdeal.Value.res_out0 m' c = Ref.normalised (Ref.rows x ty word pos type) ga be) :
    computed m c = Cert.ReferenceIdeal.Value.res_out0 m' c := by
  rw [hc, hr]
  funext j
  idx_vars j
  exact rowComputed_eq x ty word pos type ga be (pre_types x ty word pos type ga be hp.1) (pre_finite x ty word pos type ga be hp.2) j0 j1 j2

end Cert.Embed

end
-- ==== Proof.lean ====
/- The certificate: the kernel and its idealised reading run and keep their arguments, the reference does too, the
   idealisation replaced no operation, and the two results are equal at exact arithmetic. -/
module

public import proofs.«01_k».proof.Defs
public import proofs.«01_k».proof.Proof.Gen.KernelIdeal
public import proofs.«01_k».proof.Proof.Gen.ReferenceIdeal.Run
public import proofs.«01_k».proof.Proof.SameText
public import proofs.«01_k».proof.Proof.Equation
public import Idealize.ShloMosaic.Adequacy
public import Idealize.ShloMosaic.Init
public import Idealize.ShloMosaic.Lib.Quiescent

@[expose] public section

set_option maxRecDepth 65536

noncomputable section

namespace Cert.Proof

open Idealize.ShloMosaic Idealize.SL.Sem

/-- The facts that the precondition's operations need of their shapes. -/
theorem preFacts : Cert.Pre_binary_types_finite_base.Facts where
  bcast_S_S64x512 := by decide
  slices_S2x768_S1x768_0_0 := by decide
  shapeCasts_S1x768_S768 := by decide
  bcast_S_S768 := by decide

/-- The kernel runs to an end and keeps its arguments, whatever the reading of the floats. -/
theorem kernel_frame : Cert.quiescent_Kernel := fun m g _ => Cert.Embed.run_frame m g

/-- The idealised kernel runs to an end and keeps its arguments. -/
theorem kernelIdeal_frame : Cert.quiescent_KernelIdeal := fun m g _ => by
  rw [Cert.Embed.defs_eq]
  exact Cert.Embed.run_frame (F := Ideal) m g

/-- The reference runs to an end and keeps its arguments. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- The idealised kernel's run ends with the computed array as its result and with its arguments unchanged. -/
theorem kernelIdeal_result (m : (ℓ : Loc Cert.Kernel.nD Cert.Kernel.τ Cert.Kernel.sig) → Buf (Elt Ideal) ℓ)
    (g : Dev Cert.Kernel.nD → PrngReg) :
    θ_run (Cert.Kernel.defs (F := Ideal)) (onTc (τ := Cert.Kernel.τ) (Cert.Kernel.main (F := Ideal))) ⟨m, fun _ => 0, g⟩ (fun r => ∀ c : Dev Cert.Kernel.nD,
      r.2.mem ((c.tc : Thread Cert.Kernel.nD Cert.Kernel.τ).loc Cert.Kernel.main_v0) = Cert.Embed.computed m c
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) :=
  (θ_run _ _ _).mono (fun _ h c => ⟨((h.1 c).1).trans (Cert.Embed.resultArr_eq m c), (h.1 c).2⟩)
    (Cert.Embed.run_result (F := Ideal) m g)

/-- At exact arithmetic, under the precondition, the idealised kernel and the reference end with equal results. -/
theorem equal_results : Cert.algebraic_KernelIdeal_ReferenceIdeal_pre_binary_types_finite_base
    (hKernelIdeal := Cert.KernelIdeal.Gen.facts) (hReferenceIdeal := Cert.ReferenceIdeal.Gen.facts)
    (hPre_binary_types_finite_base := preFacts) := by
  intro m g m' g' hp hargs
  refine ⟨fun c => Cert.Embed.computed m c, ?_, ?_⟩
  · rw [Cert.Embed.defs_eq]
    exact kernelIdeal_result m g
  · refine (θ_run _ _ _).mono (fun r h c => ⟨((h c).1).trans ?_, (h c).2⟩) (Cert.ReferenceIdeal.Value.run m' g')
    obtain ⟨a0, a1, a2, a3, a4, a5, a6⟩ := hargs c
    refine (@Cert.Embed.computed_eq_result preFacts m m' c _ _ _ _ _ _ _ (hp c) rfl ?_).symm
    refine (Cert.Embed.Ref.result_eq m' c).trans ?_
    rw [a0, a1, a2, a3, a4, a5, a6]

/-- The certificate's claims, all of them. -/
theorem claim : Cert.Claim :=
  ⟨Cert.Kernel.Gen.facts, Cert.KernelIdeal.Gen.facts, Cert.ReferenceIdeal.Gen.facts, preFacts,
    kernel_frame, kernelIdeal_frame, fun m g _ => kernelIdeal_frame m g trivial, reference_frame,
    fun m g _ => reference_frame m g trivial, trivial, equal_results⟩

end Cert.Proof

end
